-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S2x160000 : Shape := ⟨2, ![2, 160000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x256 : Shape := ⟨2, ![256, 256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x256 : Shape := ⟨2, ![160000, 256]⟩
abbrev S1x512 : Shape := ⟨2, ![1, 512]⟩
abbrev S10000x512 : Shape := ⟨2, ![10000, 512]⟩
abbrev S2000x256 : Shape := ⟨2, ![2000, 256]⟩
abbrev S2000x512 : Shape := ⟨2, ![2000, 512]⟩
abbrev S160000x512 : Shape := ⟨2, ![160000, 512]⟩
abbrev S1x256 : Shape := ⟨2, ![1, 256]⟩

abbrev nBuf : Space → Nat
  | .hbm => 136
  | .vmem => 54
  | .smem => 0
  | _ => 0

abbrev hbmTy0_0 (i : Nat) : BufTy := match i % 128 with
  | 0 => ⟨S10000x256, .f32⟩
  | 1 => ⟨S2x160000, .i32⟩
  | 2 => ⟨S256x512, .f32⟩
  | 3 => ⟨S512, .f32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x512, .f32⟩
  | 19 => ⟨S512, .f32⟩
  | 20 => ⟨S512x512, .f32⟩
  | 21 => ⟨S512, .f32⟩
  | 22 => ⟨S512x512, .f32⟩
  | 23 => ⟨S512, .f32⟩
  | 24 => ⟨S512x512, .f32⟩
  | 25 => ⟨S512, .f32⟩
  | 26 => ⟨S512x256, .f32⟩
  | 27 => ⟨S256, .f32⟩
  | 28 => ⟨S1x160000, .i32⟩
  | 29 => ⟨S160000, .i32⟩
  | 30 => ⟨S1x160000, .i32⟩
  | 31 => ⟨S160000, .i32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000x256, .f32⟩
  | 41 => ⟨S_, .f32⟩
  | 42 => ⟨S10000x256, .f32⟩
  | 43 => ⟨S160000x1, .i32⟩
  | 44 => ⟨S10000x256, .f32⟩
  | 45 => ⟨S10000x256, .f32⟩
  | 46 => ⟨S1x512, .f32⟩
  | 47 => ⟨S1x512, .f32⟩
  | 48 => ⟨S10000x512, .f32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S160000x1, .i32⟩
  | 57 => ⟨S160000x512, .f32⟩
  | 58 => ⟨S_, .f32⟩
  | 59 => ⟨S10000x512, .f32⟩
  | 60 => ⟨S160000x1, .i32⟩
  | 61 => ⟨S10000x512, .f32⟩
  | 62 => ⟨S10000x512, .f32⟩
  | 63 => ⟨S1x512, .f32⟩
  | 64 => ⟨S1x512, .f32⟩
  | 65 => ⟨S10000x512, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000x512, .f32⟩
  | 75 => ⟨S_, .f32⟩
  | 76 => ⟨S10000x512, .f32⟩
  | 77 => ⟨S160000x1, .i32⟩
  | 78 => ⟨S10000x512, .f32⟩
  | 79 => ⟨S10000x512, .f32⟩
  | 80 => ⟨S1x256, .f32⟩
  | 81 => ⟨S1x256, .f32⟩
  | 82 => ⟨S10000x256, .f32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S160000x256, .f32⟩
  | 92 => ⟨S_, .f32⟩
  | 93 => ⟨S10000x256, .f32⟩
  | 94 => ⟨S160000x1, .i32⟩
  | 95 => ⟨S10000x256, .f32⟩
  | 96 => ⟨S10000x256, .f32⟩
  | 97 => ⟨S1x256, .f32⟩
  | 98 => ⟨S1x256, .f32⟩
  | 99 => ⟨S10000x256, .f32⟩
  | 100 => ⟨S_, .i32⟩
  | 101 => ⟨S160000, .i32⟩
  | 102 => ⟨S160000, .i1⟩
  | 103 => ⟨S_, .i32⟩
  | 104 => ⟨S160000, .i32⟩
  | 105 => ⟨S160000, .i32⟩
  | 106 => ⟨S160000, .i32⟩
  | 107 => ⟨S160000x1, .i32⟩
  | 108 => ⟨S160000x256, .f32⟩
  | 109 => ⟨S_, .f32⟩
  | 110 => ⟨S10000x256, .f32⟩
  | 111 => ⟨S160000x1, .i32⟩
  | 112 => ⟨S10000x256, .f32⟩
  | 113 => ⟨S10000x256, .f32⟩
  | 114 => ⟨S1x512, .f32⟩
  | 115 => ⟨S1x512, .f32⟩
  | 116 => ⟨S10000x512, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x512, .f32⟩
  | 126 => ⟨S_, .f32⟩
  | 127 => ⟨S10000x512, .f32⟩
  | _ => ⟨S10000x256, .f32⟩

abbrev hbmTy0_1 (i : Nat) : BufTy := match i % 128 with
  | 0 => ⟨S160000x1, .i32⟩
  | 1 => ⟨S10000x512, .f32⟩
  | 2 => ⟨S10000x512, .f32⟩
  | 3 => ⟨S1x512, .f32⟩
  | 4 => ⟨S1x512, .f32⟩
  | 5 => ⟨S10000x512, .f32⟩
  | 6 => ⟨S1x256, .f32⟩
  | 7 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S512x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S256x512, .f32⟩
  | .local _ .vmem, ⟨35, _⟩ => ⟨S1x512, .f32⟩
  | .local _ .vmem, ⟨36, _⟩ => ⟨S512x512, .f32⟩
  | .local _ .vmem, ⟨37, _⟩ => ⟨S1x512, .f32⟩
  | .local _ .vmem, ⟨38, _⟩ => ⟨S2000x512, .f32⟩
  | .local _ .vmem, ⟨39, _⟩ => ⟨S2000x512, .f32⟩
  | .local _ .vmem, ⟨40, _⟩ => ⟨S2000x512, .f32⟩
  | .local _ .vmem, ⟨41, _⟩ => ⟨S2000x512, .f32⟩
  | .local _ .vmem, ⟨42, _⟩ => ⟨S512x512, .f32⟩
  | .local _ .vmem, ⟨43, _⟩ => ⟨S1x512, .f32⟩
  | .local _ .vmem, ⟨44, _⟩ => ⟨S512x512, .f32⟩
  | .local _ .vmem, ⟨45, _⟩ => ⟨S1x512, .f32⟩
  | .local _ .vmem, ⟨46, _⟩ => ⟨S2000x512, .f32⟩
  | .local _ .vmem, ⟨47, _⟩ => ⟨S2000x512, .f32⟩
  | .local _ .vmem, ⟨48, _⟩ => ⟨S2000x512, .f32⟩
  | .local _ .vmem, ⟨49, _⟩ => ⟨S2000x512, .f32⟩
  | .local _ .vmem, ⟨50, _⟩ => ⟨S512x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_1 : Ref sig .tc := ⟨.hbm, 49, rfl⟩
abbrev main_v18 : Ref sig .tc := ⟨.hbm, 50, rfl⟩
abbrev main_v19 : Ref sig .tc := ⟨.hbm, 51, rfl⟩
abbrev main_c_2 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_3 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_4 : Ref sig .tc := ⟨.hbm, 66, rfl⟩
abbrev main_v32 : Ref sig .tc := ⟨.hbm, 67, rfl⟩
abbrev main_v33 : Ref sig .tc := ⟨.hbm, 68, rfl⟩
abbrev main_c_5 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_6 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_7 : Ref sig .tc := ⟨.hbm, 83, rfl⟩
abbrev main_v46 : Ref sig .tc := ⟨.hbm, 84, rfl⟩
abbrev main_v47 : Ref sig .tc := ⟨.hbm, 85, rfl⟩
abbrev main_c_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_9 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_10 : Ref sig .tc := ⟨.hbm, 100, rfl⟩
abbrev main_v60 : Ref sig .tc := ⟨.hbm, 101, rfl⟩
abbrev main_v61 : Ref sig .tc := ⟨.hbm, 102, rfl⟩
abbrev main_c_11 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_13 : Ref sig .tc := ⟨.hbm, 117, rfl⟩
abbrev main_v74 : Ref sig .tc := ⟨.hbm, 118, rfl⟩
abbrev main_v75 : Ref sig .tc := ⟨.hbm, 119, rfl⟩
abbrev main_c_14 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_15 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]
-- ==== ReferenceIdeal.lean ====
abbrev S10000x256 : Shape := ⟨2, ![10000, 256]⟩
abbrev S2x160000 : Shape := ⟨2, ![2, 160000]⟩
abbrev S256x512 : Shape := ⟨2, ![256, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x256 : Shape := ⟨2, ![256, 256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x256 : Shape := ⟨2, ![160000, 256]⟩
abbrev S10000x512 : Shape := ⟨2, ![10000, 512]⟩
abbrev S1x512 : Shape := ⟨2, ![1, 512]⟩
abbrev S160000x512 : Shape := ⟨2, ![160000, 512]⟩
abbrev S1x256 : Shape := ⟨2, ![1, 256]⟩

abbrev nBuf : Space → Nat
  | .hbm => 230
  | .vmem => 0
  | .smem => 0
  | _ => 0

abbrev hbmTy0_0 (i : Nat) : BufTy := match i % 128 with
  | 0 => ⟨S10000x256, .f32⟩
  | 1 => ⟨S2x160000, .i32⟩
  | 2 => ⟨S256x512, .f32⟩
  | 3 => ⟨S512, .f32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x512, .f32⟩
  | 19 => ⟨S512, .f32⟩
  | 20 => ⟨S512x512, .f32⟩
  | 21 => ⟨S512, .f32⟩
  | 22 => ⟨S512x512, .f32⟩
  | 23 => ⟨S512, .f32⟩
  | 24 => ⟨S512x512, .f32⟩
  | 25 => ⟨S512, .f32⟩
  | 26 => ⟨S512x256, .f32⟩
  | 27 => ⟨S256, .f32⟩
  | 28 => ⟨S1x160000, .i32⟩
  | 29 => ⟨S160000, .i32⟩
  | 30 => ⟨S1x160000, .i32⟩
  | 31 => ⟨S160000, .i32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000x256, .f32⟩
  | 41 => ⟨S_, .f32⟩
  | 42 => ⟨S10000x256, .f32⟩
  | 43 => ⟨S160000x1, .i32⟩
  | 44 => ⟨S10000x256, .f32⟩
  | 45 => ⟨S10000x256, .f32⟩
  | 46 => ⟨S10000x512, .f32⟩
  | 47 => ⟨S1x512, .f32⟩
  | 48 => ⟨S10000x512, .f32⟩
  | 49 => ⟨S10000x512, .f32⟩
  | 50 => ⟨S_, .f32⟩
  | 51 => ⟨S10000x512, .f32⟩
  | 52 => ⟨S10000x512, .f32⟩
  | 53 => ⟨S10000x512, .f32⟩
  | 54 => ⟨S1x512, .f32⟩
  | 55 => ⟨S10000x512, .f32⟩
  | 56 => ⟨S10000x512, .f32⟩
  | 57 => ⟨S_, .f32⟩
  | 58 => ⟨S10000x512, .f32⟩
  | 59 => ⟨S10000x512, .f32⟩
  | 60 => ⟨S_, .f32⟩
  | 61 => ⟨S10000x512, .f32⟩
  | 62 => ⟨S10000x512, .f32⟩
  | 63 => ⟨S_, .i32⟩
  | 64 => ⟨S160000, .i32⟩
  | 65 => ⟨S160000, .i1⟩
  | 66 => ⟨S_, .i32⟩
  | 67 => ⟨S160000, .i32⟩
  | 68 => ⟨S160000, .i32⟩
  | 69 => ⟨S160000, .i32⟩
  | 70 => ⟨S160000x1, .i32⟩
  | 71 => ⟨S160000x512, .f32⟩
  | 72 => ⟨S_, .f32⟩
  | 73 => ⟨S10000x512, .f32⟩
  | 74 => ⟨S160000x1, .i32⟩
  | 75 => ⟨S10000x512, .f32⟩
  | 76 => ⟨S10000x512, .f32⟩
  | 77 => ⟨S10000x512, .f32⟩
  | 78 => ⟨S1x512, .f32⟩
  | 79 => ⟨S10000x512, .f32⟩
  | 80 => ⟨S10000x512, .f32⟩
  | 81 => ⟨S_, .f32⟩
  | 82 => ⟨S10000x512, .f32⟩
  | 83 => ⟨S10000x512, .f32⟩
  | 84 => ⟨S10000x512, .f32⟩
  | 85 => ⟨S1x512, .f32⟩
  | 86 => ⟨S10000x512, .f32⟩
  | 87 => ⟨S10000x512, .f32⟩
  | 88 => ⟨S_, .f32⟩
  | 89 => ⟨S10000x512, .f32⟩
  | 90 => ⟨S10000x512, .f32⟩
  | 91 => ⟨S_, .f32⟩
  | 92 => ⟨S10000x512, .f32⟩
  | 93 => ⟨S10000x512, .f32⟩
  | 94 => ⟨S_, .i32⟩
  | 95 => ⟨S160000, .i32⟩
  | 96 => ⟨S160000, .i1⟩
  | 97 => ⟨S_, .i32⟩
  | 98 => ⟨S160000, .i32⟩
  | 99 => ⟨S160000, .i32⟩
  | 100 => ⟨S160000, .i32⟩
  | 101 => ⟨S160000x1, .i32⟩
  | 102 => ⟨S160000x512, .f32⟩
  | 103 => ⟨S_, .f32⟩
  | 104 => ⟨S10000x512, .f32⟩
  | 105 => ⟨S160000x1, .i32⟩
  | 106 => ⟨S10000x512, .f32⟩
  | 107 => ⟨S10000x512, .f32⟩
  | 108 => ⟨S10000x256, .f32⟩
  | 109 => ⟨S1x256, .f32⟩
  | 110 => ⟨S10000x256, .f32⟩
  | 111 => ⟨S10000x256, .f32⟩
  | 112 => ⟨S_, .f32⟩
  | 113 => ⟨S10000x256, .f32⟩
  | 114 => ⟨S10000x256, .f32⟩
  | 115 => ⟨S10000x256, .f32⟩
  | 116 => ⟨S1x256, .f32⟩
  | 117 => ⟨S10000x256, .f32⟩
  | 118 => ⟨S10000x256, .f32⟩
  | 119 => ⟨S_, .f32⟩
  | 120 => ⟨S10000x256, .f32⟩
  | 121 => ⟨S10000x256, .f32⟩
  | 122 => ⟨S_, .f32⟩
  | 123 => ⟨S10000x256, .f32⟩
  | 124 => ⟨S10000x256, .f32⟩
  | 125 => ⟨S_, .i32⟩
  | 126 => ⟨S160000, .i32⟩
  | 127 => ⟨S160000, .i1⟩
  | _ => ⟨S10000x256, .f32⟩

abbrev hbmTy0_1 (i : Nat) : BufTy := match i % 128 with
  | 0 => ⟨S_, .i32⟩
  | 1 => ⟨S160000, .i32⟩
  | 2 => ⟨S160000, .i32⟩
  | 3 => ⟨S160000, .i32⟩
  | 4 => ⟨S160000x1, .i32⟩
  | 5 => ⟨S160000x256, .f32⟩
  | 6 => ⟨S_, .f32⟩
  | 7 => ⟨S10000x256, .f32⟩
  | 8 => ⟨S160000x1, .i32⟩
  | 9 => ⟨S10000x256, .f32⟩
  | 10 => ⟨S10000x256, .f32⟩
  | 11 => ⟨S10000x256, .f32⟩
  | 12 => ⟨S1x256, .f32⟩
  | 13 => ⟨S10000x256, .f32⟩
  | 14 => ⟨S10000x256, .f32⟩
  | 15 => ⟨S_, .f32⟩
  | 16 => ⟨S10000x256, .f32⟩
  | 17 => ⟨S10000x256, .f32⟩
  | 18 => ⟨S10000x256, .f32⟩
  | 19 => ⟨S1x256, .f32⟩
  | 20 => ⟨S10000x256, .f32⟩
  | 21 => ⟨S10000x256, .f32⟩
  | 22 => ⟨S_, .f32⟩
  | 23 => ⟨S10000x256, .f32⟩
  | 24 => ⟨S10000x256, .f32⟩
  | 25 => ⟨S_, .f32⟩
  | 26 => ⟨S10000x256, .f32⟩
  | 27 => ⟨S10000x256, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000x256, .f32⟩
  | 37 => ⟨S_, .f32⟩
  | 38 => ⟨S10000x256, .f32⟩
  | 39 => ⟨S160000x1, .i32⟩
  | 40 => ⟨S10000x256, .f32⟩
  | 41 => ⟨S10000x256, .f32⟩
  | 42 => ⟨S10000x512, .f32⟩
  | 43 => ⟨S1x512, .f32⟩
  | 44 => ⟨S10000x512, .f32⟩
  | 45 => ⟨S10000x512, .f32⟩
  | 46 => ⟨S_, .f32⟩
  | 47 => ⟨S10000x512, .f32⟩
  | 48 => ⟨S10000x512, .f32⟩
  | 49 => ⟨S10000x512, .f32⟩
  | 50 => ⟨S1x512, .f32⟩
  | 51 => ⟨S10000x512, .f32⟩
  | 52 => ⟨S10000x512, .f32⟩
  | 53 => ⟨S_, .f32⟩
  | 54 => ⟨S10000x512, .f32⟩
  | 55 => ⟨S10000x512, .f32⟩
  | 56 => ⟨S_, .f32⟩
  | 57 => ⟨S10000x512, .f32⟩
  | 58 => ⟨S10000x512, .f32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S160000x1, .i32⟩
  | 67 => ⟨S160000x512, .f32⟩
  | 68 => ⟨S_, .f32⟩
  | 69 => ⟨S10000x512, .f32⟩
  | 70 => ⟨S160000x1, .i32⟩
  | 71 => ⟨S10000x512, .f32⟩
  | 72 => ⟨S10000x512, .f32⟩
  | 73 => ⟨S10000x512, .f32⟩
  | 74 => ⟨S1x512, .f32⟩
  | 75 => ⟨S10000x512, .f32⟩
  | 76 => ⟨S10000x512, .f32⟩
  | 77 => ⟨S_, .f32⟩
  | 78 => ⟨S10000x512, .f32⟩
  | 79 => ⟨S10000x512, .f32⟩
  | 80 => ⟨S10000x512, .f32⟩
  | 81 => ⟨S1x512, .f32⟩
  | 82 => ⟨S10000x512, .f32⟩
  | 83 => ⟨S10000x512, .f32⟩
  | 84 => ⟨S_, .f32⟩
  | 85 => ⟨S10000x512, .f32⟩
  | 86 => ⟨S10000x512, .f32⟩
  | 87 => ⟨S_, .f32⟩
  | 88 => ⟨S10000x512, .f32⟩
  | 89 => ⟨S10000x512, .f32⟩
  | 90 => ⟨S10000x256, .f32⟩
  | 91 => ⟨S1x256, .f32⟩
  | 92 => ⟨S10000x256, .f32⟩
  | 93 => ⟨S10000x256, .f32⟩
  | 94 => ⟨S10000x256, .f32⟩
  | 95 => ⟨S10000x256, .f32⟩
  | 96 => ⟨S_, .f32⟩
  | 97 => ⟨S10000x256, .f32⟩
  | 98 => ⟨S10000x256, .f32⟩
  | 99 => ⟨S_, .f32⟩
  | 100 => ⟨S10000x256, .f32⟩
  | 101 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call0_cst : Ref sig .tc := ⟨.hbm, 50, rfl⟩
abbrev main_call0_v0 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call1_cst : Ref sig .tc := ⟨.hbm, 57, rfl⟩
abbrev main_call1_v0 : Ref sig .tc := ⟨.hbm, 58, rfl⟩
abbrev main_v24 : Ref sig .tc := ⟨.hbm, 59, rfl⟩
abbrev main_call2_cst : Ref sig .tc := ⟨.hbm, 60, rfl⟩
abbrev main_call2_v0 : Ref sig .tc := ⟨.hbm, 61, rfl⟩
abbrev main_v25 : Ref sig .tc := ⟨.hbm, 62, rfl⟩
abbrev main_c_1 : Ref sig .tc := ⟨.hbm, 63, rfl⟩
abbrev main_v26 : Ref sig .tc := ⟨.hbm, 64, rfl⟩
abbrev main_v27 : Ref sig .tc := ⟨.hbm, 65, rfl⟩
abbrev main_c_2 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_3 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_call3_cst : Ref sig .tc := ⟨.hbm, 81, rfl⟩
abbrev main_call3_v0 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call4_cst : Ref sig .tc := ⟨.hbm, 88, rfl⟩
abbrev main_call4_v0 : Ref sig .tc := ⟨.hbm, 89, rfl⟩
abbrev main_v46 : Ref sig .tc := ⟨.hbm, 90, rfl⟩
abbrev main_call5_cst : Ref sig .tc := ⟨.hbm, 91, rfl⟩
abbrev main_call5_v0 : Ref sig .tc := ⟨.hbm, 92, rfl⟩
abbrev main_v47 : Ref sig .tc := ⟨.hbm, 93, rfl⟩
abbrev main_c_4 : Ref sig .tc := ⟨.hbm, 94, rfl⟩
abbrev main_v48 : Ref sig .tc := ⟨.hbm, 95, rfl⟩
abbrev main_v49 : Ref sig .tc := ⟨.hbm, 96, rfl⟩
abbrev main_c_5 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_6 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call6_cst : Ref sig .tc := ⟨.hbm, 112, rfl⟩
abbrev main_call6_v0 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_call7_cst : Ref sig .tc := ⟨.hbm, 119, rfl⟩
abbrev main_call7_v0 : Ref sig .tc := ⟨.hbm, 120, rfl⟩
abbrev main_v68 : Ref sig .tc := ⟨.hbm, 121, rfl⟩
abbrev main_call8_cst : Ref sig .tc := ⟨.hbm, 122, rfl⟩
abbrev main_call8_v0 : Ref sig .tc := ⟨.hbm, 123, rfl⟩
abbrev main_v69 : Ref sig .tc := ⟨.hbm, 124, rfl⟩
abbrev main_c_7 : Ref sig .tc := ⟨.hbm, 125, rfl⟩
abbrev main_v70 : Ref sig .tc := ⟨.hbm, 126, rfl⟩
abbrev main_v71 : Ref sig .tc := ⟨.hbm, 127, rfl⟩
abbrev main_c_8 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_9 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_call9_cst : Ref sig .tc := ⟨.hbm, 143, rfl⟩
abbrev main_call9_v0 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_call10_cst : Ref sig .tc := ⟨.hbm, 150, rfl⟩
abbrev main_call10_v0 : Ref sig .tc := ⟨.hbm, 151, rfl⟩
abbrev main_v90 : Ref sig .tc := ⟨.hbm, 152, rfl⟩
abbrev main_call11_cst : Ref sig .tc := ⟨.hbm, 153, rfl⟩
abbrev main_call11_v0 : Ref sig .tc := ⟨.hbm, 154, rfl⟩
abbrev main_v91 : Ref sig .tc := ⟨.hbm, 155, rfl⟩
abbrev main_c_10 : Ref sig .tc := ⟨.hbm, 156, rfl⟩
abbrev main_v92 : Ref sig .tc := ⟨.hbm, 157, rfl⟩
abbrev main_v93 : Ref sig .tc := ⟨.hbm, 158, rfl⟩
abbrev main_c_11 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_cst_12 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_call12_cst : Ref sig .tc := ⟨.hbm, 174, rfl⟩
abbrev main_call12_v0 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_call13_cst : Ref sig .tc := ⟨.hbm, 181, rfl⟩
abbrev main_call13_v0 : Ref sig .tc := ⟨.hbm, 182, rfl⟩
abbrev main_v112 : Ref sig .tc := ⟨.hbm, 183, rfl⟩
abbrev main_call14_cst : Ref sig .tc := ⟨.hbm, 184, rfl⟩
abbrev main_call14_v0 : Ref sig .tc := ⟨.hbm, 185, rfl⟩
abbrev main_v113 : Ref sig .tc := ⟨.hbm, 186, rfl⟩
abbrev main_c_13 : Ref sig .tc := ⟨.hbm, 187, rfl⟩
abbrev main_v114 : Ref sig .tc := ⟨.hbm, 188, rfl⟩
abbrev main_v115 : Ref sig .tc := ⟨.hbm, 189, rfl⟩
abbrev main_c_14 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_cst_15 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_call15_cst : Ref sig .tc := ⟨.hbm, 205, rfl⟩
abbrev main_call15_v0 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_call16_cst : Ref sig .tc := ⟨.hbm, 212, rfl⟩
abbrev main_call16_v0 : Ref sig .tc := ⟨.hbm, 213, rfl⟩
abbrev main_v134 : Ref sig .tc := ⟨.hbm, 214, rfl⟩
abbrev main_call17_cst : Ref sig .tc := ⟨.hbm, 215, rfl⟩
abbrev main_call17_v0 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_cst_16 : Ref sig .tc := ⟨.hbm, 224, rfl⟩
abbrev main_v142 : Ref sig .tc := ⟨.hbm, 225, rfl⟩
abbrev main_v143 : Ref sig .tc := ⟨.hbm, 226, rfl⟩
abbrev main_cst_17 : Ref sig .tc := ⟨.hbm, 227, rfl⟩
abbrev main_v144 : Ref sig .tc := ⟨.hbm, 228, rfl⟩
abbrev main_v145 : Ref sig .tc := ⟨.hbm, 229, rfl⟩

abbrev nD : Nat := 1
abbrev τ : Topo := Topo.v7x

variable {F : FTy → Type} [FloatOps F]
-- ==== Proof.KRun.lean ====
/-
  THE KERNEL'S RUN, READ AT ITS RESULT: every fair execution ends with the result array at the contents the fold through the
  launches and host stretches gives it (`W14`), and with every argument as launched and every counter at zero. The launch
  is set up as for the frame; only what is read off the last state differs.
-/
module

public import proofs.«01_k».proof.Proof.Gen.KernelIdeal.Frame
public import Idealize.ShloMosaic.Lib.Claim

@[expose] public section

noncomputable section

namespace Cert.Gin.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with the goal, through plain definitions
set_option backward.isDefEq.respectTransparency.types false in
/-- Every fair execution ends with every unscoped buffer of the TensorCore at its last contents; read at the result. -/
theorem run_result : θ_run defs (onTc (τ := τ) (main (F := F))) ⟨m, fun _ => 0, ρ⟩ fun r => ∀ c : Dev nD,
      r.2.mem ((c.tc : Thread nD τ).loc main_v89) = W14 m ρ c (Proc.devRef .tc main_v89) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htok; imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howe, -, Hgen, -⟩, -⟩
      imodintro
      isplitl [Hbufs]; · iexact Hbufs
      isplitl [Hgen]; · iexists _; iexact Hgen
      iexists ∅; iexact Howe)
    (QY := fun c s => ∀ b ∈ Pipeline.ucRefs τ sig, s.mem (((c : Thread nD τ)).1, b) = W14 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W14 m ρ c) s')
      isplitl [Hbufs] <;> iassumption)
    (hQ := fun s h _ c => h c _ (mem_uc main_v89 (by decide)))

end Cert.Gin.Kernel
-- ==== Proof.Layers.lean ====
/-
  THE PLAIN MATHEMATICS OF ONE LAYER, over extended reals, at extents that are variables: the two-product perceptron that
  follows each neighbourhood sum (`mlp`), the last product with its sigmoid (`readout`), and the neighbourhood sum itself
  (`hop`). A kernel launch computes the first two on a block of rows, the reference on the whole array; both are read here
  as the same function, so that every layer of the network is an instance.
-/
module

public import Idealize.ShloMosaic.Lib.MatmulPlain
public import Idealize.ShloMosaic.Lib.IdealHost
public import Idealize.ShloMosaic.Lib.KernelVsHost
public import Idealize.ShloMosaic.Lib.ValueLayout

@[expose] public section

noncomputable section

namespace Cert.Gin

open Idealize.ShloMosaic Idealize.ShloMosaic.ValueIdx
open scoped BigOperators

/-- A matrix of extended reals. -/
abbrev Mat (m n : ℕ) : Type := FVec Ideal ⟨2, ![m, n]⟩ .f32

/-- A vector of extended reals. -/
abbrev Row (n : ℕ) : Type := FVec Ideal ⟨1, ![n]⟩ .f32

/-- The product of two matrices plus one row `b` laid along every row, at entry (r, c). -/
def affine {m a b : ℕ} (h : Mat m a) (w : Mat a b) (bias : Mat 1 b) (r : Fin m) (c : Fin b) : EReal :=
  (∑ k : Fin a, h (ix2 r k) * w (ix2 k c)) + bias (ix2 (0 : Fin 1) c)

/-- A matrix from its entries. -/
def ofEntries {m n : ℕ} (f : Fin m → Fin n → EReal) : Mat m n := fun i => f (i 0) (i 1)

/-- The perceptron of one layer: `max (max (h · w₁ + b₁) 0 · w₂ + b₂) 0`, entry by entry. -/
def mlp {m a b d : ℕ} (h : Mat m a) (w₁ : Mat a b) (b₁ : Mat 1 b) (w₂ : Mat b d) (b₂ : Mat 1 d) : Mat m d :=
  ofEntries fun r c => max (affine (ofEntries fun r k => max (affine h w₁ b₁ r k) 0) w₂ b₂ r c) 0

/-- The last product with its sigmoid: `1 / (1 + e^(-(h · w + b)))`, entry by entry. -/
def readout {m a b : ℕ} (h : Mat m a) (w : Mat a b) (bias : Mat 1 b) : Mat m b :=
  ofEntries fun r c => Ideal.logistic (affine h w bias r c)

/-- A matrix is the matrix of its entries. -/
theorem eq_ofEntries {m n : ℕ} {x : Mat m n} {f : Fin m → Fin n → EReal} (h : ∀ r c, x (ix2 r c) = f r c) :
    x = ofEntries f := by
  funext i
  exact (congrArg x (eq_ix2 i)).trans (h (i 0) (i 1))

/-! ## Rows: each function acts on every row by itself -/

/-- An affine entry depends on its own row of the left factor alone. -/
theorem affine_row {m m' a b : ℕ} {h : Mat m a} {h' : Mat m' a} (w : Mat a b) (bias : Mat 1 b) {r : Fin m} {r' : Fin m'}
    (e : ∀ k, h (ix2 r k) = h' (ix2 r' k)) (c : Fin b) : affine h w bias r c = affine h' w bias r' c := by
  unfold affine
  exact congrArg (· + bias (ix2 (0 : Fin 1) c)) (Finset.sum_congr rfl fun k _ => congrArg (· * w (ix2 k c)) (e k))

/-- A perceptron entry depends on its own row of the input alone. -/
theorem mlp_row {m m' a b d : ℕ} {h : Mat m a} {h' : Mat m' a} (w₁ : Mat a b) (b₁ : Mat 1 b) (w₂ : Mat b d) (b₂ : Mat 1 d)
    {r : Fin m} {r' : Fin m'} (e : ∀ k, h (ix2 r k) = h' (ix2 r' k)) (c : Fin d) :
    mlp h w₁ b₁ w₂ b₂ (ix2 r c) = mlp h' w₁ b₁ w₂ b₂ (ix2 r' c) := by
  show max (affine _ w₂ b₂ r c) 0 = max (affine _ w₂ b₂ r' c) 0
  exact congrArg (max · 0) (affine_row w₂ b₂ (fun k => congrArg (max · 0) (affine_row w₁ b₁ e k)) c)

/-- An entry of the last product and sigmoid depends on its own row of the input alone. -/
theorem readout_row {m m' a b : ℕ} {h : Mat m a} {h' : Mat m' a} (w : Mat a b) (bias : Mat 1 b)
    {r : Fin m} {r' : Fin m'} (e : ∀ k, h (ix2 r k) = h' (ix2 r' k)) (c : Fin b) :
    readout h w bias (ix2 r c) = readout h' w bias (ix2 r' c) :=
  congrArg Ideal.logistic (affine_row w bias e c)

/-! ## What the kernel's body computes -/

section Kernel
variable {m a b d : ℕ}

/-- A kernel's product into a zero accumulator plus its broadcast one-row bias, at an entry. -/
theorem kernel_affine (h : Mat m a) (w : Mat a b) (bias : Mat 1 b) (h1 : (⟨2, ![1, b]⟩ : Shape).ShapeCasts ⟨2, ![1, b]⟩)
    (hb : (⟨2, ![1, b]⟩ : Shape).Broadcasts ⟨2, ![m, b]⟩) (r : Fin m) (c : Fin b) :
    addf (matmul (DotDims.plain m a b) none h w (constant ⟨2, ![m, b]⟩ .f32 0x00000000#32))
      (broadcastTo ⟨2, ![m, b]⟩ (shapeCast ⟨2, ![1, b]⟩ bias h1) hb) (ix2 r c) = affine h w bias r c := by
  rw [addf_apply, broadcastTo_1b_ab_apply, shapeCast_self]
  refine congrArg (· + bias (ix2 (0 : Fin 1) c)) ?_
  refine (Ideal.matmul_plain_apply none h w _ r c).trans ?_
  rw [constant_apply, Ideal.ofBits_zero_f32, zero_add]

/-- Kernel and perceptron agree: two products into zero accumulators, each with its bias and its maximum with zero. -/
theorem kernel_mlp (h : Mat m a) (w₁ : Mat a b) (b₁ : Mat 1 b) (w₂ : Mat b d) (b₂ : Mat 1 d)
    (h0 : (⟨2, ![m, a]⟩ : Shape).ShapeCasts ⟨2, ![m, a]⟩)
    (h1 : (⟨2, ![1, b]⟩ : Shape).ShapeCasts ⟨2, ![1, b]⟩) (hb₁ : (⟨2, ![1, b]⟩ : Shape).Broadcasts ⟨2, ![m, b]⟩)
    (h2 : (⟨2, ![1, d]⟩ : Shape).ShapeCasts ⟨2, ![1, d]⟩) (hb₂ : (⟨2, ![1, d]⟩ : Shape).Broadcasts ⟨2, ![m, d]⟩) :
    maximumf (addf (matmul (DotDims.plain m b d) none
        (maximumf (addf (matmul (DotDims.plain m a b) none (shapeCast ⟨2, ![m, a]⟩ h h0) w₁
              (constant ⟨2, ![m, b]⟩ .f32 0x00000000#32))
            (broadcastTo ⟨2, ![m, b]⟩ (shapeCast ⟨2, ![1, b]⟩ b₁ h1) hb₁))
          (broadcast ⟨2, ![m, b]⟩ (Scalar.ofBits (F := Ideal) .f32 0x00000000#32))) w₂
        (constant ⟨2, ![m, d]⟩ .f32 0x00000000#32))
      (broadcastTo ⟨2, ![m, d]⟩ (shapeCast ⟨2, ![1, d]⟩ b₂ h2) hb₂))
      (broadcast ⟨2, ![m, d]⟩ (Scalar.ofBits (F := Ideal) .f32 0x00000000#32)) = mlp h w₁ b₁ w₂ b₂ := by
  have hz : Scalar.ofBits (F := Ideal) .f32 0x00000000#32 = (0 : EReal) := Ideal.ofBits_zero_f32
  have inner : maximumf (addf (matmul (DotDims.plain m a b) none (shapeCast ⟨2, ![m, a]⟩ h h0) w₁
              (constant ⟨2, ![m, b]⟩ .f32 0x00000000#32))
            (broadcastTo ⟨2, ![m, b]⟩ (shapeCast ⟨2, ![1, b]⟩ b₁ h1) hb₁))
          (broadcast ⟨2, ![m, b]⟩ (Scalar.ofBits (F := Ideal) .f32 0x00000000#32))
      = ofEntries fun r k => max (affine h w₁ b₁ r k) 0 :=
    eq_ofEntries fun r k => by rw [maximumf_apply, kernel_affine, shapeCast_self, broadcast_apply, hz]
  rw [inner]
  exact eq_ofEntries fun r c => by rw [maximumf_apply, kernel_affine, broadcast_apply, hz]

/-- Kernel and last layer agree: one product into a zero accumulator, its bias, and the kernel's one sigmoid operation. -/
theorem kernel_readout (h : Mat m a) (w : Mat a b) (bias : Mat 1 b)
    (h0 : (⟨2, ![m, a]⟩ : Shape).ShapeCasts ⟨2, ![m, a]⟩)
    (h1 : (⟨2, ![1, b]⟩ : Shape).ShapeCasts ⟨2, ![1, b]⟩) (hb : (⟨2, ![1, b]⟩ : Shape).Broadcasts ⟨2, ![m, b]⟩) :
    logistic (addf (matmul (DotDims.plain m a b) none (shapeCast ⟨2, ![m, a]⟩ h h0) w
        (constant ⟨2, ![m, b]⟩ .f32 0x00000000#32))
      (broadcastTo ⟨2, ![m, b]⟩ (shapeCast ⟨2, ![1, b]⟩ bias h1) hb)) = readout h w bias := by
  refine eq_ofEntries fun r c => ?_
  refine congrArg Ideal.logistic ?_
  rw [kernel_affine, shapeCast_self]

end Kernel

/-! ## What the reference computes -/

section Host
variable {m a b d : ℕ}

/-- A bias vector as the one-row matrix both programs lay along the rows. -/
def oneRow {n : ℕ} (x : Row n) : Mat 1 n := ofEntries fun _ c => x (ix1 c)

/-- The kernel's one-row reshape of a bias vector. -/
theorem shapeCast_eq_oneRow {n : ℕ} (x : Row n) (h : (⟨1, ![n]⟩ : Shape).ShapeCasts ⟨2, ![1, n]⟩) :
    shapeCast ⟨2, ![1, n]⟩ x h = oneRow x :=
  eq_ofEntries fun r c => by rw [shapeCast_a_1a_apply]

/-- The host's product plus its bias vector broadcast in two steps, at an entry. -/
theorem host_affine (h : Mat m a) (w : Mat a b) (bias : Row b)
    (h1 : (⟨1, ![b]⟩ : Shape).BroadcastsInDim ⟨2, ![1, b]⟩ ![1])
    (h2 : (⟨2, ![1, b]⟩ : Shape).BroadcastsInDim ⟨2, ![m, b]⟩ ![0, 1]) (r : Fin m) (c : Fin b) :
    addf (Host.dotGeneral (DotDims.plain m a b) none h w)
      (broadcastInDim ⟨2, ![m, b]⟩ ![0, 1] h2 (broadcastInDim ⟨2, ![1, b]⟩ ![1] h1 bias)) (ix2 r c)
      = affine h w (oneRow bias) r c := by
  rw [addf_apply, broadcastInDim_oneRow_apply]
  have e1 : broadcastInDim ⟨2, ![1, b]⟩ ![1] h1 bias (ix2 (0 : Fin 1) c) = bias (ix1 c) :=
    broadcastInDim_apply ![1] h1 bias _ (ix1 c) (by
      intro z
      match z with
      | ⟨0, _⟩ =>
        show c.val = if b = 1 then 0 else c.val
        split
        · have := c.isLt; omega
        · rfl)
  rw [e1, ← matmul_zero_eq_dotGeneral]
  refine congrArg (· + bias (ix1 c)) ?_
  refine (Ideal.matmul_plain_apply none h w _ r c).trans ?_
  rw [constant_apply, Ideal.ofBits_zero_f32, zero_add]

/-- A splat of zero, read anywhere, is zero. -/
theorem zeros_apply {T : Shape} (h : (⟨0, ![]⟩ : Shape).BroadcastsInDim T ![]) (j : T.Idx) :
    broadcastInDim T ![] h (constant (F := Ideal) ⟨0, ![]⟩ .f32 0x00000000#32) j = (0 : EReal) := by
  rw [broadcastInDim_scalar_apply, constant_apply, Ideal.ofBits_zero_f32]

/-- A splat of one, read anywhere, is one. -/
theorem ones_apply {T : Shape} (h : (⟨0, ![]⟩ : Shape).BroadcastsInDim T ![]) (j : T.Idx) :
    broadcastInDim T ![] h (constant (F := Ideal) ⟨0, ![]⟩ .f32 0x3F800000#32) j = (1 : EReal) := by
  rw [broadcastInDim_scalar_apply, constant_apply, Ideal.ofBits_one_f32]

/-- Reference and perceptron agree: the reference's second maximum with zero around each layer changes nothing. -/
theorem host_mlp (h : Mat m a) (w₁ : Mat a b) (b₁ : Row b) (w₂ : Mat b d) (b₂ : Row d)
    (h1 : (⟨1, ![b]⟩ : Shape).BroadcastsInDim ⟨2, ![1, b]⟩ ![1])
    (h2 : (⟨2, ![1, b]⟩ : Shape).BroadcastsInDim ⟨2, ![m, b]⟩ ![0, 1])
    (h3 : (⟨1, ![d]⟩ : Shape).BroadcastsInDim ⟨2, ![1, d]⟩ ![1])
    (h4 : (⟨2, ![1, d]⟩ : Shape).BroadcastsInDim ⟨2, ![m, d]⟩ ![0, 1])
    (hz₁ : (⟨0, ![]⟩ : Shape).BroadcastsInDim ⟨2, ![m, b]⟩ ![]) (hz₂ : (⟨0, ![]⟩ : Shape).BroadcastsInDim ⟨2, ![m, d]⟩ ![]) :
    maximumf (maximumf (addf (Host.dotGeneral (DotDims.plain m b d) none
        (maximumf (addf (Host.dotGeneral (DotDims.plain m a b) none h w₁)
            (broadcastInDim ⟨2, ![m, b]⟩ ![0, 1] h2 (broadcastInDim ⟨2, ![1, b]⟩ ![1] h1 b₁)))
          (broadcastInDim ⟨2, ![m, b]⟩ ![] hz₁ (constant (F := Ideal) ⟨0, ![]⟩ .f32 0x00000000#32))) w₂)
      (broadcastInDim ⟨2, ![m, d]⟩ ![0, 1] h4 (broadcastInDim ⟨2, ![1, d]⟩ ![1] h3 b₂)))
      (broadcastInDim ⟨2, ![m, d]⟩ ![] hz₂ (constant (F := Ideal) ⟨0, ![]⟩ .f32 0x00000000#32)))
      (broadcastInDim ⟨2, ![m, d]⟩ ![] hz₂ (constant (F := Ideal) ⟨0, ![]⟩ .f32 0x00000000#32))
      = mlp h w₁ (oneRow b₁) w₂ (oneRow b₂) := by
  have inner : maximumf (addf (Host.dotGeneral (DotDims.plain m a b) none h w₁)
            (broadcastInDim ⟨2, ![m, b]⟩ ![0, 1] h2 (broadcastInDim ⟨2, ![1, b]⟩ ![1] h1 b₁)))
          (broadcastInDim ⟨2, ![m, b]⟩ ![] hz₁ (constant (F := Ideal) ⟨0, ![]⟩ .f32 0x00000000#32))
      = ofEntries fun r k => max (affine h w₁ (oneRow b₁) r k) 0 :=
    eq_ofEntries fun r k => by rw [maximumf_apply, host_affine, zeros_apply]
  rw [inner]
  exact eq_ofEntries fun r c => by
    rw [maximumf_apply, maximumf_apply, host_affine, zeros_apply, max_eq_left (le_max_right _ _)]

/-- Reference and last layer agree: the sigmoid written out by negation, exponential, sum and quotient. -/
theorem host_readout (h : Mat m a) (w : Mat a b) (bias : Row b)
    (h1 : (⟨1, ![b]⟩ : Shape).BroadcastsInDim ⟨2, ![1, b]⟩ ![1])
    (h2 : (⟨2, ![1, b]⟩ : Shape).BroadcastsInDim ⟨2, ![m, b]⟩ ![0, 1])
    (hz : (⟨0, ![]⟩ : Shape).BroadcastsInDim ⟨2, ![m, b]⟩ ![]) :
    Host.divf (broadcastInDim ⟨2, ![m, b]⟩ ![] hz (constant (F := Ideal) ⟨0, ![]⟩ .f32 0x3F800000#32))
      (addf (broadcastInDim ⟨2, ![m, b]⟩ ![] hz (constant (F := Ideal) ⟨0, ![]⟩ .f32 0x3F800000#32))
        (Host.exp (Host.negf (addf (Host.dotGeneral (DotDims.plain m a b) none h w)
          (broadcastInDim ⟨2, ![m, b]⟩ ![0, 1] h2 (broadcastInDim ⟨2, ![1, b]⟩ ![1] h1 bias))))))
      = readout h w (oneRow bias) := by
  refine eq_ofEntries fun r c => ?_
  rw [hostDivf_apply, addf_apply, ones_apply]
  show Ideal.div 1 (1 + Ideal.exp (-(_))) = Ideal.div 1 (1 + Ideal.exp (-(affine h w (oneRow bias) r c)))
  rw [host_affine]

end Host

/-! ## The neighbourhood sum -/

section Hop
variable {n e a : ℕ}

/-- One neighbourhood sum: `x` plus, at each node, the sum of the rows of `x` at the sources of the edges that end there.
    A source below zero counts from the end. The gather's and the scatter's dimension numbers are arguments, so that each
    program's own printed numbers can be put there. -/
def hop (hs : (⟨0, ![]⟩ : Shape).BroadcastsInDim ⟨1, ![e]⟩ ![]) (hc : (⟨1, ![e]⟩ : Shape).BroadcastsInDim ⟨2, ![e, 1]⟩ ![0])
    (hz : (⟨0, ![]⟩ : Shape).BroadcastsInDim ⟨2, ![n, a]⟩ ![]) (g : GatherDims ⟨2, ![n, a]⟩ ⟨2, ![e, 1]⟩ ⟨2, ![e, a]⟩)
    (s : ScatterDims ⟨2, ![n, a]⟩ ⟨2, ![e, 1]⟩ ⟨2, ![e, a]⟩) (N : BitVec 32)
    (src dst : IVec ⟨1, ![e]⟩ 32) (x : Mat n a) : Mat n a :=
  addf x (Host.scatterAdd s (broadcastInDim ⟨2, ![n, a]⟩ ![] hz (constant (F := Ideal) ⟨0, ![]⟩ .f32 0x00000000#32))
    (broadcastInDim ⟨2, ![e, 1]⟩ ![0] hc dst)
    (Host.gather g x (broadcastInDim ⟨2, ![e, 1]⟩ ![0] hc
      (select (cmpi .slt src (broadcastInDim ⟨1, ![e]⟩ ![] hs (constantI ⟨0, ![]⟩ 32 0#32)))
        (addi src (broadcastInDim ⟨1, ![e]⟩ ![] hs (constantI ⟨0, ![]⟩ 32 N))) src))))

end Hop

end Cert.Gin
-- ==== Proof.Net.lean ====
/-
  THE NETWORK BOTH PROGRAMS COMPUTE, as one function of the arguments: six layers, each a neighbourhood sum and a two-product
  perceptron, then one product with a sigmoid. The edge list is read once: its first row holds the sources, its second the
  targets.
-/
module

public import proofs.«01_k».proof.Proof.Gen.KernelIdeal
public import proofs.«01_k».proof.Proof.Layers

@[expose] public section

noncomputable section

namespace Cert.Gin

open Cert.KernelIdeal Cert.KernelIdeal.Gen
open Idealize.ShloMosaic

/-- The list of edges: two rows of node numbers. -/
abbrev Edges : Type := IVec S2x160000 32

/-- The edges' sources. -/
def src (E : Edges) : IVec S160000 32 :=
  shapeCast S160000 (extractStridedSlice S1x160000 ![0, 0] E slices_S2x160000_S1x160000_0_0) shapeCasts_S1x160000_S160000

/-- The edges' targets. -/
def dst (E : Edges) : IVec S160000 32 :=
  shapeCast S160000 (extractStridedSlice S1x160000 ![1, 0] E slices_S2x160000_S1x160000_1_0) shapeCasts_S1x160000_S160000

/-- The neighbourhood sum over 10000 nodes and 160000 edges, at 256 features. -/
def hop256 (s d : IVec S160000 32) (x : Mat 10000 256) : Mat 10000 256 :=
  hop bcast_S_S160000 bcast_S160000_S160000x1_0 bcast_S_S10000x256 gather_S10000x256_S160000x1_S160000x256_1_0_n_n_0_1_1256
    scatter_S10000x256_S160000x1_S160000x256_1_0_0_1 10000#32 s d x

/-- The neighbourhood sum over 10000 nodes and 160000 edges, at 512 features. -/
def hop512 (s d : IVec S160000 32) (x : Mat 10000 512) : Mat 10000 512 :=
  hop bcast_S_S160000 bcast_S160000_S160000x1_0 bcast_S_S10000x512 gather_S10000x512_S160000x1_S160000x512_1_0_n_n_0_1_1512
    scatter_S10000x512_S160000x1_S160000x512_1_0_0_1 10000#32 s d x

/-- One layer's weights. -/
structure Params (a b : ℕ) where
  /-- The first product's matrix. -/
  w₁ : Mat a b
  /-- The first bias. -/
  b₁ : Row b
  /-- The second product's matrix. -/
  w₂ : Mat b b
  /-- The second bias. -/
  b₂ : Row b

/-- One layer's perceptron at its weights. -/
def Params.apply {a b : ℕ} (p : Params a b) (h : Mat 10000 a) : Mat 10000 b := mlp h p.w₁ (oneRow p.b₁) p.w₂ (oneRow p.b₂)

/-- A layer on 256 features. -/
def layer256 {b : ℕ} (E : Edges) (p : Params 256 b) (x : Mat 10000 256) : Mat 10000 b := p.apply (hop256 (src E) (dst E) x)

/-- A layer on 512 features. -/
def layer512 {b : ℕ} (E : Edges) (p : Params 512 b) (x : Mat 10000 512) : Mat 10000 b := p.apply (hop512 (src E) (dst E) x)

/-- The whole network. -/
def net (x : Mat 10000 256) (E : Edges) (p₁ : Params 256 512) (p₂ : Params 512 512) (p₃ : Params 512 256)
    (p₄ : Params 256 256) (p₅ : Params 256 512) (p₆ : Params 512 512) (w : Mat 512 256) (b : Row 256) : Mat 10000 256 :=
  readout (layer512 E p₆ (layer256 E p₅ (layer256 E p₄ (layer512 E p₃ (layer512 E p₂ (layer256 E p₁ x)))))) w (oneRow b)

end Cert.Gin
-- ==== Proof.Host.lean ====
/-
  THE KERNEL'S HOST STRETCHES, READ: before each launch the host leaves the neighbourhood sum of the last layer's array and
  the launch's two bias vectors as one-row matrices. Each is read at any contents `W` the stretch may start from.
-/
module

public import proofs.«01_k».proof.Proof.Gen.KernelIdeal.Launch
public import proofs.«01_k».proof.Proof.Net
public import Idealize.ShloMosaic.Lib.StableHlo.Run

@[expose] public section

noncomputable section

namespace Cert.Gin.Kernel

open Cert.KernelIdeal Cert.KernelIdeal.Gen Cert.Gin
open Idealize.ShloMosaic Idealize.ShloMosaic.TcCoe Idealize.SL.Sem Idealize.ShloMosaic.StableHlo

variable (W : Valuation τ sig (Elt Ideal))

/-! ## The first stretch -/

/-- The sources, from the edge list. -/
theorem host0_src : after hostOps0 W (Proc.devRef .tc main_v1) = src (W (Proc.devRef .tc main_arg1)) := by
  after_results_simp
  rfl

/-- The targets, from the edge list. -/
theorem host0_dst : after hostOps0 W (Proc.devRef .tc main_v3) = dst (W (Proc.devRef .tc main_arg1)) := by
  after_results_simp
  rfl

/-- The first launch's input. -/
theorem host0_sum : after hostOps0 W (Proc.devRef .tc main_v14)
    = hop256 (src (W (Proc.devRef .tc main_arg1))) (dst (W (Proc.devRef .tc main_arg1))) (W (Proc.devRef .tc main_arg0)) := by
  after_results_simp
  rfl

/-- The first launch's first bias. -/
theorem host0_b₁ : after hostOps0 W (Proc.devRef .tc main_v15) = oneRow (W (Proc.devRef .tc main_arg3)) := by
  after_results_simp
  exact shapeCast_eq_oneRow _ _

/-- The first launch's second bias. -/
theorem host0_b₂ : after hostOps0 W (Proc.devRef .tc main_v16) = oneRow (W (Proc.devRef .tc main_arg5)) := by
  after_results_simp
  exact shapeCast_eq_oneRow _ _

/-! ## The later stretches, each from the contents the launch before it left -/

/-- The second launch's input. -/
theorem host1_sum : after hostOps1 W (Proc.devRef .tc main_v28)
    = hop512 (W (Proc.devRef .tc main_v1)) (W (Proc.devRef .tc main_v3)) (W (Proc.devRef .tc main_v17)) := by
  after_results_simp
  rfl

/-- The second launch's first bias. -/
theorem host1_b₁ : after hostOps1 W (Proc.devRef .tc main_v29) = oneRow (W (Proc.devRef .tc main_arg7)) := by
  after_results_simp
  exact shapeCast_eq_oneRow _ _

/-- The second launch's second bias. -/
theorem host1_b₂ : after hostOps1 W (Proc.devRef .tc main_v30) = oneRow (W (Proc.devRef .tc main_arg9)) := by
  after_results_simp
  exact shapeCast_eq_oneRow _ _

/-- The third launch's input. -/
theorem host2_sum : after hostOps2 W (Proc.devRef .tc main_v42)
    = hop512 (W (Proc.devRef .tc main_v1)) (W (Proc.devRef .tc main_v3)) (W (Proc.devRef .tc main_v31)) := by
  after_results_simp
  rfl

/-- The third launch's first bias. -/
theorem host2_b₁ : after hostOps2 W (Proc.devRef .tc main_v43) = oneRow (W (Proc.devRef .tc main_arg11)) := by
  after_results_simp
  exact shapeCast_eq_oneRow _ _

/-- The third launch's second bias. -/
theorem host2_b₂ : after hostOps2 W (Proc.devRef .tc main_v44) = oneRow (W (Proc.devRef .tc main_arg13)) := by
  after_results_simp
  exact shapeCast_eq_oneRow _ _

/-- The fourth launch's input. -/
theorem host3_sum : after hostOps3 W (Proc.devRef .tc main_v56)
    = hop256 (W (Proc.devRef .tc main_v1)) (W (Proc.devRef .tc main_v3)) (W (Proc.devRef .tc main_v45)) := by
  after_results_simp
  rfl

/-- The fourth launch's first bias. -/
theorem host3_b₁ : after hostOps3 W (Proc.devRef .tc main_v57) = oneRow (W (Proc.devRef .tc main_arg15)) := by
  after_results_simp
  exact shapeCast_eq_oneRow _ _

/-- The fourth launch's second bias. -/
theorem host3_b₂ : after hostOps3 W (Proc.devRef .tc main_v58) = oneRow (W (Proc.devRef .tc main_arg17)) := by
  after_results_simp
  exact shapeCast_eq_oneRow _ _

/-- The fifth launch's input. -/
theorem host4_sum : after hostOps4 W (Proc.devRef .tc main_v70)
    = hop256 (W (Proc.devRef .tc main_v1)) (W (Proc.devRef .tc main_v3)) (W (Proc.devRef .tc main_v59)) := by
  after_results_simp
  rfl

/-- The fifth launch's first bias. -/
theorem host4_b₁ : after hostOps4 W (Proc.devRef .tc main_v71) = oneRow (W (Proc.devRef .tc main_arg19)) := by
  after_results_simp
  exact shapeCast_eq_oneRow _ _

/-- The fifth launch's second bias. -/
theorem host4_b₂ : after hostOps4 W (Proc.devRef .tc main_v72) = oneRow (W (Proc.devRef .tc main_arg21)) := by
  after_results_simp
  exact shapeCast_eq_oneRow _ _

/-- The sixth launch's input. -/
theorem host5_sum : after hostOps5 W (Proc.devRef .tc main_v84)
    = hop512 (W (Proc.devRef .tc main_v1)) (W (Proc.devRef .tc main_v3)) (W (Proc.devRef .tc main_v73)) := by
  after_results_simp
  rfl

/-- The sixth launch's first bias. -/
theorem host5_b₁ : after hostOps5 W (Proc.devRef .tc main_v85) = oneRow (W (Proc.devRef .tc main_arg23)) := by
  after_results_simp
  exact shapeCast_eq_oneRow _ _

/-- The sixth launch's second bias. -/
theorem host5_b₂ : after hostOps5 W (Proc.devRef .tc main_v86) = oneRow (W (Proc.devRef .tc main_arg25)) := by
  after_results_simp
  exact shapeCast_eq_oneRow _ _

/-- The last launch's bias. -/
theorem host6_b : after hostOps6 W (Proc.devRef .tc main_v88) = oneRow (W (Proc.devRef .tc main_arg27)) := by
  after_results_simp
  exact shapeCast_eq_oneRow _ _

end Cert.Gin.Kernel
-- ==== Proof.Rows.lean ====
/-
  BLOCKS OF ROWS: a launch of the kernel walks 10000 rows in five blocks of 2000. These lemmas say, once for every launch,
  that a layer computed on a block of rows is the block of the layer computed on all rows, and that the five blocks cover
  the array. A block is a read through a unit-stride rectangle of the array, whose offsets are left variable.
-/
module

public import proofs.«01_k».proof.Proof.Layers
public import Idealize.ShloMosaic.Lib.Pipeline.Value

@[expose] public section

noncomputable section

namespace Cert.Gin

open Idealize.ShloMosaic Idealize.ShloMosaic.ValueIdx

/-- The zero offsets of a rank-two rectangle, as the constant function. -/
theorem zeros2 : (![0, 0] : Fin 2 → ℕ) = fun _ => 0 := by
  funext x
  match x with
  | ⟨0, _⟩ => rfl
  | ⟨1, _⟩ => rfl

/-- An array read through the rectangle of its own size at offsets that vanish is the array. -/
theorem ld_whole {m n : ℕ} (off : Fin 2 → ℕ) (h : ∀ x, off x = 0)
    (inb : ∀ x, off x + (![m, n] : Fin 2 → ℕ) x ≤ (⟨2, ![m, n]⟩ : Shape).size x) (X : Mat m n) :
    View.ld (Val := Elt Ideal) (e' := .f32) X (Rect.unit (s := ⟨2, ![m, n]⟩) off ![m, n] inb) = X :=
  View.ld_unit_zero (Val := Elt Ideal) (e := .f32) (funext h) inb X

/-- A block of rows read at (r, c): the array at the row shifted by the block's offset. -/
theorem ld_rows_apply {m n p : ℕ} (off : Fin 2 → ℕ) (h1 : off 1 = 0)
    (inb : ∀ x, off x + (![p, n] : Fin 2 → ℕ) x ≤ (⟨2, ![m, n]⟩ : Shape).size x) (X : Mat m n) (r : Fin p) (c : Fin n)
    (r' : Fin m) (hr : r'.val = off 0 + r.val) :
    View.ld (Val := Elt Ideal) (e' := .f32) X (Rect.unit (s := ⟨2, ![m, n]⟩) off ![p, n] inb) (ix2 r c) = X (ix2 r' c) := by
  refine congrArg X (funext fun x => Fin.ext ?_)
  match x with
  | ⟨0, _⟩ =>
    show off 0 + 1 * r.val = r'.val
    omega
  | ⟨1, _⟩ =>
    show off 1 + 1 * c.val = c.val
    omega

/-- The row of the array under row `r` of a block. -/
def rowUnder {m n p : ℕ} (off : Fin 2 → ℕ)
    (inb : ∀ x, off x + (![p, n] : Fin 2 → ℕ) x ≤ (⟨2, ![m, n]⟩ : Shape).size x) (r : Fin p) : Fin m :=
  ⟨off 0 + r.val, by
    have h : off 0 + p ≤ m := inb 0
    have := r.isLt
    omega⟩

/-- The perceptron of a block of rows is the block of the perceptron of all rows. -/
theorem mlp_ld {m p a b d : ℕ} (off off' : Fin 2 → ℕ) (h1 : off 1 = 0) (h1' : off' 1 = 0) (h0 : off' 0 = off 0)
    (inb : ∀ x, off x + (![p, a] : Fin 2 → ℕ) x ≤ (⟨2, ![m, a]⟩ : Shape).size x)
    (inb' : ∀ x, off' x + (![p, d] : Fin 2 → ℕ) x ≤ (⟨2, ![m, d]⟩ : Shape).size x)
    (H : Mat m a) (w₁ : Mat a b) (b₁ : Mat 1 b) (w₂ : Mat b d) (b₂ : Mat 1 d) :
    mlp (View.ld (Val := Elt Ideal) (e' := .f32) H (Rect.unit (s := ⟨2, ![m, a]⟩) off ![p, a] inb)) w₁ b₁ w₂ b₂
      = View.ld (Val := Elt Ideal) (e' := .f32) (mlp H w₁ b₁ w₂ b₂) (Rect.unit (s := ⟨2, ![m, d]⟩) off' ![p, d] inb') := by
  funext j
  obtain ⟨r, c, rfl⟩ : ∃ (r : Fin p) (c : Fin d), j = ix2 r c := ⟨j 0, j 1, eq_ix2 j⟩
  rw [ld_rows_apply off' h1' inb' _ r c (rowUnder off inb r) (by show off 0 + r.val = _; omega)]
  exact mlp_row w₁ b₁ w₂ b₂ (fun k => ld_rows_apply off h1 inb H r k (rowUnder off inb r) rfl) c

/-- The last layer of a block of rows is the block of the last layer of all rows. -/
theorem readout_ld {m p a b : ℕ} (off off' : Fin 2 → ℕ) (h1 : off 1 = 0) (h1' : off' 1 = 0) (h0 : off' 0 = off 0)
    (inb : ∀ x, off x + (![p, a] : Fin 2 → ℕ) x ≤ (⟨2, ![m, a]⟩ : Shape).size x)
    (inb' : ∀ x, off' x + (![p, b] : Fin 2 → ℕ) x ≤ (⟨2, ![m, b]⟩ : Shape).size x)
    (H : Mat m a) (w : Mat a b) (bias : Mat 1 b) :
    readout (View.ld (Val := Elt Ideal) (e' := .f32) H (Rect.unit (s := ⟨2, ![m, a]⟩) off ![p, a] inb)) w bias
      = View.ld (Val := Elt Ideal) (e' := .f32) (readout H w bias) (Rect.unit (s := ⟨2, ![m, b]⟩) off' ![p, b] inb') := by
  funext j
  obtain ⟨r, c, rfl⟩ : ∃ (r : Fin p) (c : Fin b), j = ix2 r c := ⟨j 0, j 1, eq_ix2 j⟩
  rw [ld_rows_apply off' h1' inb' _ r c (rowUnder off inb r) (by show off 0 + r.val = _; omega)]
  exact readout_row w bias (fun k => ld_rows_apply off h1 inb H r k (rowUnder off inb r) rfl) c

/-! ## The blocks of a launch -/

/-- The grid of five points every launch runs on. -/
abbrev five : Pipeline.Grid := ⟨1, ![5], ![false]⟩

/-- The block of rows that point `t` works on. -/
abbrev blockAt (t : Fin five.N) : ℕ := (BitVec.ofNat 32 (five.coords t 0).val).toNat

/-- The rows of every point's block are rows of the array. -/
theorem blockAt_le : ∀ t : Fin five.N, blockAt t * 2000 + 2000 ≤ 10000 := by
  decide +kernel

/-- A block of all columns lies within the array as soon as its rows do. -/
theorem rows_inb {q m p n : ℕ} (h : q * p + p ≤ m) (x : Fin 2) :
    (![q, 0] : Fin 2 → ℕ) x * (![p, n] : Fin 2 → ℕ) x + (![p, n] : Fin 2 → ℕ) x ≤ (⟨2, ![m, n]⟩ : Shape).size x := by
  match x with
  | ⟨0, _⟩ => exact h
  | ⟨1, _⟩ =>
    show 0 * n + n ≤ n
    omega

/-- The block that has the array's own extents lies within it. -/
theorem whole_inb {m n : ℕ} (x : Fin 2) : (![0, 0] : Fin 2 → ℕ) x + (![m, n] : Fin 2 → ℕ) x ≤ (⟨2, ![m, n]⟩ : Shape).size x := by
  match x with
  | ⟨0, _⟩ => exact (Nat.zero_add m).le
  | ⟨1, _⟩ => exact (Nat.zero_add n).le

/-- Block `q` of `p` rows of an array. -/
def rowsOf {m p n : ℕ} (q : ℕ) (h : q * p + p ≤ m) (X : Mat m n) : Mat p n :=
  View.ld (Val := Elt Ideal) (e' := .f32) X
    (Rect.unit (s := ⟨2, ![m, n]⟩) (fun x => (![q, 0] : Fin 2 → ℕ) x * (![p, n] : Fin 2 → ℕ) x) ![p, n] (rows_inb h))

/-- The perceptron of a block of rows is the block of the perceptron. -/
theorem mlp_rowsOf {m p a b d : ℕ} (q : ℕ) (h : q * p + p ≤ m) (H : Mat m a) (w₁ : Mat a b) (b₁ : Mat 1 b) (w₂ : Mat b d)
    (b₂ : Mat 1 d) : mlp (rowsOf q h H) w₁ b₁ w₂ b₂ = rowsOf q h (mlp H w₁ b₁ w₂ b₂) :=
  mlp_ld _ _ (Nat.zero_mul _) (Nat.zero_mul _) (by rfl) (rows_inb (n := a) h) (rows_inb (n := d) h) H w₁ b₁ w₂ b₂

/-- The last layer of a block of rows is the block of the last layer. -/
theorem readout_rowsOf {m p a b : ℕ} (q : ℕ) (h : q * p + p ≤ m) (H : Mat m a) (w : Mat a b) (bias : Mat 1 b) :
    readout (rowsOf q h H) w bias = rowsOf q h (readout H w bias) :=
  readout_ld _ _ (Nat.zero_mul _) (Nat.zero_mul _) (by rfl) (rows_inb (n := a) h) (rows_inb (n := b) h) H w bias

/-- The 2000 rows of an array that point `t` works on. -/
def rowsAt {n : ℕ} (t : Fin five.N) (X : Mat 10000 n) : Mat 2000 n := rowsOf (blockAt t) (blockAt_le t) X

/-- An array staged whole, as its one block. -/
def staged {m n : ℕ} (X : Mat m n) : Mat m n :=
  View.ld (Val := Elt Ideal) (e' := .f32) X
    (Rect.unit (s := ⟨2, ![m, n]⟩) (fun x => (![0, 0] : Fin 2 → ℕ) x * (![m, n] : Fin 2 → ℕ) x) ![m, n]
      (rows_inb (q := 0) (by omega)))

/-- A staging buffer loaded whole. -/
def loaded {m n : ℕ} (X : Mat m n) : Mat m n :=
  View.ld (Val := Elt Ideal) (e' := .f32) X (Rect.unit (s := ⟨2, ![m, n]⟩) ![0, 0] ![m, n] whole_inb)

/-- A staging buffer after one store of the whole of it. -/
def stored {m n : ℕ} (X : Mat m n) : Mat m n :=
  View.canon (Val := Elt Ideal) (e := .f32) [⟨Rect.unit (s := ⟨2, ![m, n]⟩) ![0, 0] ![m, n] whole_inb, X⟩]

/-- Staging an array whole keeps it. -/
theorem staged_eq {m n : ℕ} (X : Mat m n) : staged X = X :=
  ld_whole _ (fun x => match x with | ⟨0, _⟩ => Nat.zero_mul _ | ⟨1, _⟩ => Nat.zero_mul _) _ X

/-- Loading a buffer whole reads it. -/
theorem loaded_eq {m n : ℕ} (X : Mat m n) : loaded X = X := ld_whole _ (congrFun zeros2) _ X

/-- Storing the whole of a buffer leaves what was stored. -/
theorem stored_eq {m n : ℕ} (X : Mat m n) : stored X = X :=
  View.canon_unit_zero (Val := Elt Ideal) (e := .f32) (S := ⟨2, ![m, n]⟩) zeros2 whole_inb X

/-! ## What a launch's body stores -/

/-- A body that loads its block of rows and four whole arrays, and stores the perceptron of what it loaded, leaves in its
    staging buffer its block of the perceptron of all rows. -/
theorem stored_mlp {a b d : ℕ} (pay : Mat 2000 a → Mat a b → Mat 1 b → Mat b d → Mat 1 d → Mat 2000 d)
    (hpay : ∀ h w₁ b₁ w₂ b₂, pay h w₁ b₁ w₂ b₂ = mlp h w₁ b₁ w₂ b₂) (t : Fin five.N)
    (H : Mat 10000 a) (w₁ : Mat a b) (b₁ : Mat 1 b) (w₂ : Mat b d) (b₂ : Mat 1 d) :
    stored (pay (loaded (rowsAt t H)) (loaded (staged w₁)) (loaded (staged b₁)) (loaded (staged w₂)) (loaded (staged b₂)))
      = rowsAt t (mlp H w₁ b₁ w₂ b₂) := by
  rw [stored_eq, loaded_eq, loaded_eq, loaded_eq, loaded_eq, loaded_eq, staged_eq, staged_eq, staged_eq, staged_eq, hpay]
  exact mlp_rowsOf (blockAt t) (blockAt_le t) H w₁ b₁ w₂ b₂

/-- The same of the last layer: a block of rows and two whole arrays. -/
theorem stored_readout {a b : ℕ} (pay : Mat 2000 a → Mat a b → Mat 1 b → Mat 2000 b)
    (hpay : ∀ h w bias, pay h w bias = readout h w bias) (t : Fin five.N) (H : Mat 10000 a) (w : Mat a b) (bias : Mat 1 b) :
    stored (pay (loaded (rowsAt t H)) (loaded (staged w)) (loaded (staged bias))) = rowsAt t (readout H w bias) := by
  rw [stored_eq, loaded_eq, loaded_eq, loaded_eq, staged_eq, staged_eq, hpay]
  exact readout_rowsOf (blockAt t) (blockAt_le t) H w bias

end Cert.Gin
-- ==== Proof.Regions.lean ====
/-
  WHAT EACH LAUNCH LEAVES: the array a launch of the kernel writes, after its five points, is one layer of the arrays it
  reads, whatever those hold when it starts (`V`). The argument is `stored_mlp` (`stored_readout` for the last launch): the
  body at a point leaves its block of rows of the layer. A launch adds that its written blocks cover the array.
-/
module

public import proofs.«01_k».proof.Proof.Gen.KernelIdeal.Frame
public import proofs.«01_k».proof.Proof.Rows
public import Idealize.ShloMosaic.Lib.Pipeline.ValueKit.Geometry

@[expose] public section

noncomputable section

namespace Cert.Gin.Kernel

open Cert.KernelIdeal Cert.KernelIdeal.Gen Cert.Gin
open Idealize.ShloMosaic Idealize.ShloMosaic.TcCoe Idealize.SL.Sem

variable (V : (c : Dev nD) → (b : Ref sig .tc) → Buf (Elt Ideal) ((c : Thread nD τ).loc b)) (c : Dev nD)

/-- Launch 0 leaves the first layer's perceptron. -/
theorem final0 : (dat0 V c).arrAt 5 cfg0.N
    = mlp (V c main_v14) (V c main_arg2) (V c main_v15) (V c main_arg4) (V c main_v16) :=
  (dat0 V c).arrAt_eq_of_cover 5 _ (fun t _ => by
    show (cfg0.win 5).cut (grid0.coords t) ((dat0 V c).after 5 t) = _
    rw [after0_5]
    exact stored_mlp (k0_pay1 (F := Ideal)) (fun _ _ _ _ _ => kernel_mlp _ _ _ _ _ _ _ _ _ _) t
      (V c main_v14) (V c main_arg2) (V c main_v15) (V c main_arg4) (V c main_v16))
    (Pipeline.Window.Covers.cover _ (by decide +kernel) (Memref.isWhole_whole _))

/-- Launch 1 leaves the second layer's perceptron. -/
theorem final1 : (dat1 V c).arrAt 5 cfg1.N
    = mlp (V c main_v28) (V c main_arg6) (V c main_v29) (V c main_arg8) (V c main_v30) :=
  (dat1 V c).arrAt_eq_of_cover 5 _ (fun t _ => by
    show (cfg1.win 5).cut (grid1.coords t) ((dat1 V c).after 5 t) = _
    rw [after1_5]
    exact stored_mlp (k1_pay1 (F := Ideal)) (fun _ _ _ _ _ => kernel_mlp _ _ _ _ _ _ _ _ _ _) t
      (V c main_v28) (V c main_arg6) (V c main_v29) (V c main_arg8) (V c main_v30))
    (Pipeline.Window.Covers.cover _ (by decide +kernel) (Memref.isWhole_whole _))

/-- Launch 2 leaves the third layer's perceptron. -/
theorem final2 : (dat2 V c).arrAt 5 cfg2.N
    = mlp (V c main_v42) (V c main_arg10) (V c main_v43) (V c main_arg12) (V c main_v44) :=
  (dat2 V c).arrAt_eq_of_cover 5 _ (fun t _ => by
    show (cfg2.win 5).cut (grid2.coords t) ((dat2 V c).after 5 t) = _
    rw [after2_5]
    exact stored_mlp (k2_pay1 (F := Ideal)) (fun _ _ _ _ _ => kernel_mlp _ _ _ _ _ _ _ _ _ _) t
      (V c main_v42) (V c main_arg10) (V c main_v43) (V c main_arg12) (V c main_v44))
    (Pipeline.Window.Covers.cover _ (by decide +kernel) (Memref.isWhole_whole _))

/-- Launch 3 leaves the fourth layer's perceptron. -/
theorem final3 : (dat3 V c).arrAt 5 cfg3.N
    = mlp (V c main_v56) (V c main_arg14) (V c main_v57) (V c main_arg16) (V c main_v58) :=
  (dat3 V c).arrAt_eq_of_cover 5 _ (fun t _ => by
    show (cfg3.win 5).cut (grid3.coords t) ((dat3 V c).after 5 t) = _
    rw [after3_5]
    exact stored_mlp (k3_pay1 (F := Ideal)) (fun _ _ _ _ _ => kernel_mlp _ _ _ _ _ _ _ _ _ _) t
      (V c main_v56) (V c main_arg14) (V c main_v57) (V c main_arg16) (V c main_v58))
    (Pipeline.Window.Covers.cover _ (by decide +kernel) (Memref.isWhole_whole _))

/-- Launch 4 leaves the fifth layer's perceptron. -/
theorem final4 : (dat4 V c).arrAt 5 cfg4.N
    = mlp (V c main_v70) (V c main_arg18) (V c main_v71) (V c main_arg20) (V c main_v72) :=
  (dat4 V c).arrAt_eq_of_cover 5 _ (fun t _ => by
    show (cfg4.win 5).cut (grid4.coords t) ((dat4 V c).after 5 t) = _
    rw [after4_5]
    exact stored_mlp (k4_pay1 (F := Ideal)) (fun _ _ _ _ _ => kernel_mlp _ _ _ _ _ _ _ _ _ _) t
      (V c main_v70) (V c main_arg18) (V c main_v71) (V c main_arg20) (V c main_v72))
    (Pipeline.Window.Covers.cover _ (by decide +kernel) (Memref.isWhole_whole _))

/-- Launch 5 leaves the sixth layer's perceptron. -/
theorem final5 : (dat5 V c).arrAt 5 cfg5.N
    = mlp (V c main_v84) (V c main_arg22) (V c main_v85) (V c main_arg24) (V c main_v86) :=
  (dat5 V c).arrAt_eq_of_cover 5 _ (fun t _ => by
    show (cfg5.win 5).cut (grid5.coords t) ((dat5 V c).after 5 t) = _
    rw [after5_5]
    exact stored_mlp (k5_pay1 (F := Ideal)) (fun _ _ _ _ _ => kernel_mlp _ _ _ _ _ _ _ _ _ _) t
      (V c main_v84) (V c main_arg22) (V c main_v85) (V c main_arg24) (V c main_v86))
    (Pipeline.Window.Covers.cover _ (by decide +kernel) (Memref.isWhole_whole _))

/-- The last launch leaves the last layer. -/
theorem final6 : (dat6 V c).arrAt 3 cfg6.N = readout (V c main_v87) (V c main_arg26) (V c main_v88) :=
  (dat6 V c).arrAt_eq_of_cover 3 _ (fun t _ => by
    show (cfg6.win 3).cut (grid6.coords t) ((dat6 V c).after 3 t) = _
    rw [after6_3]
    exact stored_readout (k6_pay1 (F := Ideal)) (fun _ _ _ => kernel_readout _ _ _ _ _ _) t
      (V c main_v87) (V c main_arg26) (V c main_v88))
    (Pipeline.Window.Covers.cover _ (by decide +kernel) (Memref.isWhole_whole _))

end Cert.Gin.Kernel
-- ==== Proof.Fold.lean ====
/-
  THE KERNEL'S RESULT IS THE NETWORK: through the launches and the host stretches between them, each launch leaves one more
  layer of the arguments. The edges' sources and targets are read off the edge list before the first launch and kept.
-/
module

public import proofs.«01_k».proof.Proof.Host
public import proofs.«01_k».proof.Proof.Regions

@[expose] public section

noncomputable section

namespace Cert.Gin

/-- A perceptron of a neighbourhood sum of 256 features is a layer, its arrays named by equations. -/
theorem layer256_of {b : ℕ} {E : Edges} {p : Params 256 b} {x X H : Mat 10000 256} {s d w₁ B₁ r₁ w₂ B₂ r₂}
    (hH : H = hop256 s d X) (hs : s = src E) (hd : d = dst E) (hX : X = x) (h₁ : w₁ = p.w₁) (hB₁ : B₁ = oneRow r₁)
    (hr₁ : r₁ = p.b₁) (h₂ : w₂ = p.w₂) (hB₂ : B₂ = oneRow r₂) (hr₂ : r₂ = p.b₂) :
    mlp H w₁ B₁ w₂ B₂ = layer256 E p x := by
  subst hH hs hd hX h₁ hB₁ hr₁ h₂ hB₂ hr₂
  rfl

/-- The same of 512 features. -/
theorem layer512_of {b : ℕ} {E : Edges} {p : Params 512 b} {x X H : Mat 10000 512} {s d w₁ B₁ r₁ w₂ B₂ r₂}
    (hH : H = hop512 s d X) (hs : s = src E) (hd : d = dst E) (hX : X = x) (h₁ : w₁ = p.w₁) (hB₁ : B₁ = oneRow r₁)
    (hr₁ : r₁ = p.b₁) (h₂ : w₂ = p.w₂) (hB₂ : B₂ = oneRow r₂) (hr₂ : r₂ = p.b₂) :
    mlp H w₁ B₁ w₂ B₂ = layer512 E p x := by
  subst hH hs hd hX h₁ hB₁ hr₁ h₂ hB₂ hr₂
  rfl

end Cert.Gin

namespace Cert.Gin.Kernel

open Cert.KernelIdeal Cert.KernelIdeal.Gen Cert.Gin
open Idealize.ShloMosaic Idealize.ShloMosaic.TcCoe Idealize.SL.Sem

variable (m : (ℓ : Loc nD τ sig) → Buf (Elt Ideal) ℓ) (ρ : Dev nD → PrngReg) (c : Dev nD)

/-! ## The arguments -/

/-- The edge list. -/
abbrev edges : Edges := m ((c : Thread nD τ).loc main_arg1)

/-- The first layer's weights. -/
def par₁ : Params 256 512 := ⟨m ((c : Thread nD τ).loc main_arg2), m ((c : Thread nD τ).loc main_arg3),
  m ((c : Thread nD τ).loc main_arg4), m ((c : Thread nD τ).loc main_arg5)⟩

/-- The second layer's weights. -/
def par₂ : Params 512 512 := ⟨m ((c : Thread nD τ).loc main_arg6), m ((c : Thread nD τ).loc main_arg7),
  m ((c : Thread nD τ).loc main_arg8), m ((c : Thread nD τ).loc main_arg9)⟩

/-- The third layer's weights. -/
def par₃ : Params 512 256 := ⟨m ((c : Thread nD τ).loc main_arg10), m ((c : Thread nD τ).loc main_arg11),
  m ((c : Thread nD τ).loc main_arg12), m ((c : Thread nD τ).loc main_arg13)⟩

/-- The fourth layer's weights. -/
def par₄ : Params 256 256 := ⟨m ((c : Thread nD τ).loc main_arg14), m ((c : Thread nD τ).loc main_arg15),
  m ((c : Thread nD τ).loc main_arg16), m ((c : Thread nD τ).loc main_arg17)⟩

/-- The fifth layer's weights. -/
def par₅ : Params 256 512 := ⟨m ((c : Thread nD τ).loc main_arg18), m ((c : Thread nD τ).loc main_arg19),
  m ((c : Thread nD τ).loc main_arg20), m ((c : Thread nD τ).loc main_arg21)⟩

/-- The sixth layer's weights. -/
def par₆ : Params 512 512 := ⟨m ((c : Thread nD τ).loc main_arg22), m ((c : Thread nD τ).loc main_arg23),
  m ((c : Thread nD τ).loc main_arg24), m ((c : Thread nD τ).loc main_arg25)⟩

/-! ## The sources and targets are kept -/

/-- The contents `W` hold the edges' sources and targets. -/
def Holds (W : Valuation τ sig (Elt Ideal)) : Prop :=
  W (Proc.devRef .tc main_v1) = src (edges m c) ∧ W (Proc.devRef .tc main_v3) = dst (edges m c)

variable {m c} in
/-- Contents that agree at the two arrays hold them alike. -/
theorem Holds.step {W W' : Valuation τ sig (Elt Ideal)} (h : Holds m c W)
    (e₁ : W' (Proc.devRef .tc main_v1) = W (Proc.devRef .tc main_v1))
    (e₃ : W' (Proc.devRef .tc main_v3) = W (Proc.devRef .tc main_v3)) : Holds m c W' :=
  ⟨e₁.trans h.1, e₃.trans h.2⟩

/-- The first stretch reads them. -/
theorem holds1 : Holds m c (W1 m ρ c) := ⟨host0_src _, host0_dst _⟩

/-- The first launch keeps them. -/
theorem holds2 : Holds m c (W2 m ρ c) :=
  (holds1 m ρ c).step (W2_of m ρ c main_v1 (by decide)) (W2_of m ρ c main_v3 (by decide))

/-- The second stretch and launch keep them. -/
theorem holds4 : Holds m c (W4 m ρ c) :=
  ((holds2 m ρ c).step (W3_of m ρ c main_v1 (by decide)) (W3_of m ρ c main_v3 (by decide))).step
    (W4_of m ρ c main_v1 (by decide)) (W4_of m ρ c main_v3 (by decide))

/-- The third stretch and launch keep them. -/
theorem holds6 : Holds m c (W6 m ρ c) :=
  ((holds4 m ρ c).step (W5_of m ρ c main_v1 (by decide)) (W5_of m ρ c main_v3 (by decide))).step
    (W6_of m ρ c main_v1 (by decide)) (W6_of m ρ c main_v3 (by decide))

/-- The fourth stretch and launch keep them. -/
theorem holds8 : Holds m c (W8 m ρ c) :=
  ((holds6 m ρ c).step (W7_of m ρ c main_v1 (by decide)) (W7_of m ρ c main_v3 (by decide))).step
    (W8_of m ρ c main_v1 (by decide)) (W8_of m ρ c main_v3 (by decide))

/-- The fifth stretch and launch keep them. -/
theorem holds10 : Holds m c (W10 m ρ c) :=
  ((holds8 m ρ c).step (W9_of m ρ c main_v1 (by decide)) (W9_of m ρ c main_v3 (by decide))).step
    (W10_of m ρ c main_v1 (by decide)) (W10_of m ρ c main_v3 (by decide))

/-! ## What each launch leaves, of the arguments -/

/-- The first launch leaves the first layer. -/
theorem out1 : W2 m ρ c (Proc.devRef .tc main_v17)
    = layer256 (edges m c) (par₁ m c) (m ((c : Thread nD τ).loc main_arg0)) :=
  (W2_arr m ρ c 5).trans <| (final0 (V1 m ρ) c).trans <| layer256_of (host0_sum _) rfl rfl rfl
    (W1_args m ρ c main_arg2 (by decide)) (host0_b₁ _) rfl (W1_args m ρ c main_arg4 (by decide)) (host0_b₂ _) rfl

/-- The second launch leaves the second layer of what the first left. -/
theorem out2 {x} (hx : W2 m ρ c (Proc.devRef .tc main_v17) = x) :
    W4 m ρ c (Proc.devRef .tc main_v31) = layer512 (edges m c) (par₂ m c) x :=
  (W4_arr m ρ c 5).trans <| (final1 (V3 m ρ) c).trans <| layer512_of (host1_sum _) (holds2 m ρ c).1 (holds2 m ρ c).2 hx
    (W3_args m ρ c main_arg6 (by decide)) (host1_b₁ _) (W2_args m ρ c main_arg7 (by decide))
    (W3_args m ρ c main_arg8 (by decide)) (host1_b₂ _) (W2_args m ρ c main_arg9 (by decide))

/-- The third launch leaves the third layer of what the second left. -/
theorem out3 {x} (hx : W4 m ρ c (Proc.devRef .tc main_v31) = x) :
    W6 m ρ c (Proc.devRef .tc main_v45) = layer512 (edges m c) (par₃ m c) x :=
  (W6_arr m ρ c 5).trans <| (final2 (V5 m ρ) c).trans <| layer512_of (host2_sum _) (holds4 m ρ c).1 (holds4 m ρ c).2 hx
    (W5_args m ρ c main_arg10 (by decide)) (host2_b₁ _) (W4_args m ρ c main_arg11 (by decide))
    (W5_args m ρ c main_arg12 (by decide)) (host2_b₂ _) (W4_args m ρ c main_arg13 (by decide))

/-- The fourth launch leaves the fourth layer of what the third left. -/
theorem out4 {x} (hx : W6 m ρ c (Proc.devRef .tc main_v45) = x) :
    W8 m ρ c (Proc.devRef .tc main_v59) = layer256 (edges m c) (par₄ m c) x :=
  (W8_arr m ρ c 5).trans <| (final3 (V7 m ρ) c).trans <| layer256_of (host3_sum _) (holds6 m ρ c).1 (holds6 m ρ c).2 hx
    (W7_args m ρ c main_arg14 (by decide)) (host3_b₁ _) (W6_args m ρ c main_arg15 (by decide))
    (W7_args m ρ c main_arg16 (by decide)) (host3_b₂ _) (W6_args m ρ c main_arg17 (by decide))

/-- The fifth launch leaves the fifth layer of what the fourth left. -/
theorem out5 {x} (hx : W8 m ρ c (Proc.devRef .tc main_v59) = x) :
    W10 m ρ c (Proc.devRef .tc main_v73) = layer256 (edges m c) (par₅ m c) x :=
  (W10_arr m ρ c 5).trans <| (final4 (V9 m ρ) c).trans <| layer256_of (host4_sum _) (holds8 m ρ c).1 (holds8 m ρ c).2 hx
    (W9_args m ρ c main_arg18 (by decide)) (host4_b₁ _) (W8_args m ρ c main_arg19 (by decide))
    (W9_args m ρ c main_arg20 (by decide)) (host4_b₂ _) (W8_args m ρ c main_arg21 (by decide))

/-- The sixth launch leaves the sixth layer of what the fifth left. -/
theorem out6 {x} (hx : W10 m ρ c (Proc.devRef .tc main_v73) = x) :
    W12 m ρ c (Proc.devRef .tc main_v87) = layer512 (edges m c) (par₆ m c) x :=
  (W12_arr m ρ c 5).trans <| (final5 (V11 m ρ) c).trans <| layer512_of (host5_sum _) (holds10 m ρ c).1 (holds10 m ρ c).2 hx
    (W11_args m ρ c main_arg22 (by decide)) (host5_b₁ _) (W10_args m ρ c main_arg23 (by decide))
    (W11_args m ρ c main_arg24 (by decide)) (host5_b₂ _) (W10_args m ρ c main_arg25 (by decide))

/-- The last launch leaves the last layer of what the sixth left. -/
theorem out7 {x} (hx : W12 m ρ c (Proc.devRef .tc main_v87) = x) : W14 m ρ c (Proc.devRef .tc main_v89)
    = readout x (m ((c : Thread nD τ).loc main_arg26)) (oneRow (m ((c : Thread nD τ).loc main_arg27))) := by
  refine (W14_arr m ρ c 3).trans ((final6 (V13 m ρ) c).trans ?_)
  have e : V13 m ρ c main_v87 = x := (W13_of m ρ c main_v87 (by decide)).trans hx
  have ew : V13 m ρ c main_arg26 = m ((c : Thread nD τ).loc main_arg26) := W13_args m ρ c main_arg26 (by decide)
  have eb : V13 m ρ c main_v88 = oneRow (m ((c : Thread nD τ).loc main_arg27)) :=
    (host6_b _).trans (congrArg oneRow (W12_args m ρ c main_arg27 (by decide)))
  rw [e, ew, eb]

/-- The network at the arguments a memory holds. -/
def netOf : Mat 10000 256 := net (m ((c : Thread nD τ).loc main_arg0)) (edges m c) (par₁ m c) (par₂ m c) (par₃ m c)
  (par₄ m c) (par₅ m c) (par₆ m c) (m ((c : Thread nD τ).loc main_arg26)) (m ((c : Thread nD τ).loc main_arg27))

/-- The result the kernel leaves is the network of its arguments. -/
theorem result_eq : W14 m ρ c (Proc.devRef .tc main_v89) = netOf m c :=
  out7 m ρ c (out6 m ρ c (out5 m ρ c (out4 m ρ c (out3 m ρ c (out2 m ρ c (out1 m ρ c))))))

end Cert.Gin.Kernel
-- ==== Proof.Reference.lean ====
/-
  THE REFERENCE'S RESULT IS THE NETWORK: each of its layers, over whole arrays, is the layer of the network. It applies the
  rectifier twice where a layer ends, which changes nothing (`host_mlp`), and spells the sigmoid out (`host_readout`).
-/
module

public import proofs.«01_k».proof.Proof.Gen.ReferenceIdeal.Run
public import proofs.«01_k».proof.Proof.Net

@[expose] public section

noncomputable section

namespace Cert.Gin.Reference

open Cert.ReferenceIdeal Cert.ReferenceIdeal.Gen Cert.ReferenceIdeal.Value Cert.Gin
open Idealize.ShloMosaic Idealize.ShloMosaic.TcCoe Idealize.SL.Sem Idealize.ShloMosaic.StableHlo

variable (V : Valuation τ sig (Elt Ideal))

/-- The edge list. -/
abbrev edges : Edges := V (Proc.devRef .tc main_arg1)

/-- The first layer's weights. -/
def par₁ : Params 256 512 := ⟨V (Proc.devRef .tc main_arg2), V (Proc.devRef .tc main_arg3), V (Proc.devRef .tc main_arg4),
  V (Proc.devRef .tc main_arg5)⟩

/-- The second layer's weights. -/
def par₂ : Params 512 512 := ⟨V (Proc.devRef .tc main_arg6), V (Proc.devRef .tc main_arg7), V (Proc.devRef .tc main_arg8),
  V (Proc.devRef .tc main_arg9)⟩

/-- The third layer's weights. -/
def par₃ : Params 512 256 := ⟨V (Proc.devRef .tc main_arg10), V (Proc.devRef .tc main_arg11), V (Proc.devRef .tc main_arg12),
  V (Proc.devRef .tc main_arg13)⟩

/-- The fourth layer's weights. -/
def par₄ : Params 256 256 := ⟨V (Proc.devRef .tc main_arg14), V (Proc.devRef .tc main_arg15), V (Proc.devRef .tc main_arg16),
  V (Proc.devRef .tc main_arg17)⟩

/-- The fifth layer's weights. -/
def par₅ : Params 256 512 := ⟨V (Proc.devRef .tc main_arg18), V (Proc.devRef .tc main_arg19), V (Proc.devRef .tc main_arg20),
  V (Proc.devRef .tc main_arg21)⟩

/-- The sixth layer's weights. -/
def par₆ : Params 512 512 := ⟨V (Proc.devRef .tc main_arg22), V (Proc.devRef .tc main_arg23), V (Proc.devRef .tc main_arg24),
  V (Proc.devRef .tc main_arg25)⟩

/-- The reference's first layer. -/
theorem layer₁ : res_main_v25 V = layer256 (edges V) (par₁ V) (V (Proc.devRef .tc main_arg0)) :=
  host_mlp (hop256 (src (edges V)) (dst (edges V)) (V (Proc.devRef .tc main_arg0))) (par₁ V).w₁ (par₁ V).b₁ (par₁ V).w₂
    (par₁ V).b₂ _ _ _ _ _ _

/-- The reference's second layer. -/
theorem layer₂ : res_main_v47 V = layer512 (edges V) (par₂ V) (res_main_v25 V) :=
  host_mlp (hop512 (src (edges V)) (dst (edges V)) (res_main_v25 V)) (par₂ V).w₁ (par₂ V).b₁ (par₂ V).w₂ (par₂ V).b₂
    _ _ _ _ _ _

/-- The reference's third layer. -/
theorem layer₃ : res_main_v69 V = layer512 (edges V) (par₃ V) (res_main_v47 V) :=
  host_mlp (hop512 (src (edges V)) (dst (edges V)) (res_main_v47 V)) (par₃ V).w₁ (par₃ V).b₁ (par₃ V).w₂ (par₃ V).b₂
    _ _ _ _ _ _

/-- The reference's fourth layer. -/
theorem layer₄ : res_main_v91 V = layer256 (edges V) (par₄ V) (res_main_v69 V) :=
  host_mlp (hop256 (src (edges V)) (dst (edges V)) (res_main_v69 V)) (par₄ V).w₁ (par₄ V).b₁ (par₄ V).w₂ (par₄ V).b₂
    _ _ _ _ _ _

/-- The reference's fifth layer. -/
theorem layer₅ : res_main_v113 V = layer256 (edges V) (par₅ V) (res_main_v91 V) :=
  host_mlp (hop256 (src (edges V)) (dst (edges V)) (res_main_v91 V)) (par₅ V).w₁ (par₅ V).b₁ (par₅ V).w₂ (par₅ V).b₂
    _ _ _ _ _ _

/-- The network at the arguments the contents hold. -/
def netOf : Mat 10000 256 := net (V (Proc.devRef .tc main_arg0)) (edges V) (par₁ V) (par₂ V) (par₃ V) (par₄ V) (par₅ V)
  (par₆ V) (V (Proc.devRef .tc main_arg26)) (V (Proc.devRef .tc main_arg27))

/-- The last layer of the sixth layer of what the fifth left is the network. -/
theorem netOf_eq : readout (layer512 (edges V) (par₆ V) (res_main_v113 V)) (V (Proc.devRef .tc main_arg26))
    (oneRow (V (Proc.devRef .tc main_arg27))) = netOf V := by
  rw [layer₅, layer₄, layer₃, layer₂, layer₁]
  rfl

variable (m : (ℓ : Loc nD τ sig) → Buf (Elt Ideal) ℓ) (ρ : Dev nD → PrngReg)

/-- Every execution of the reference ends with its result array at the network of its arguments. -/
theorem run_result : θ_run defs (onTc (τ := τ) (main (F := Ideal))) ⟨m, fun _ => 0, ρ⟩ fun r => ∀ c : Dev nD,
      r.2.mem ((c.tc : Thread nD τ).loc main_v145) = netOf (launchContents m c) :=
  (θ_run defs _ _).mono (fun _ h c => (h c).1.trans <|
    (host_readout _ (launchContents m c (Proc.devRef .tc main_arg26)) (launchContents m c (Proc.devRef .tc main_arg27)) _ _ _).trans <|
    (congrArg (fun X => readout X _ _) (host_mlp
      (hop512 (src (edges (launchContents m c))) (dst (edges (launchContents m c))) (res_main_v113 (launchContents m c)))
      (par₆ (launchContents m c)).w₁ (par₆ (launchContents m c)).b₁ (par₆ (launchContents m c)).w₂
      (par₆ (launchContents m c)).b₂ _ _ _ _ _ _)).trans (netOf_eq (launchContents m c))) (run m ρ)

end Cert.Gin.Reference
-- ==== Proof.Agree.lean ====
/-
  THE TWO PROGRAMS' NETWORKS AGREE: from memories that agree on the arguments, the network at the reference's arguments is
  the network at the kernel's. Then both programs end with one array, which is the value claim.
-/
module

public import proofs.«01_k».proof.Defs
public import proofs.«01_k».proof.Proof.KRun
public import proofs.«01_k».proof.Proof.Fold
public import proofs.«01_k».proof.Proof.Reference

@[expose] public section

noncomputable section

namespace Cert.Gin

open Idealize.ShloMosaic Idealize.ShloMosaic.TcCoe Idealize.SL.Sem Idealize.ShloMosaic.StableHlo

/-- Weights are equal when their four arrays are. -/
theorem Params.congr {a b : ℕ} {w₁ w₁' : Mat a b} {b₁ b₁' : Row b} {w₂ w₂' : Mat b b} {b₂ b₂' : Row b}
    (h₁ : w₁ = w₁') (h₂ : b₁ = b₁') (h₃ : w₂ = w₂') (h₄ : b₂ = b₂') :
    (⟨w₁, b₁, w₂, b₂⟩ : Params a b) = ⟨w₁', b₁', w₂', b₂'⟩ := by
  subst h₁ h₂ h₃ h₄
  rfl

/-- Networks are equal when their arguments are. -/
theorem net_congr {x x' E E' p₁ p₁' p₂ p₂' p₃ p₃' p₄ p₄' p₅ p₅' p₆ p₆' w w' b b'} (hx : x = x') (hE : E = E')
    (h₁ : p₁ = p₁') (h₂ : p₂ = p₂') (h₃ : p₃ = p₃') (h₄ : p₄ = p₄') (h₅ : p₅ = p₅') (h₆ : p₆ = p₆') (hw : w = w')
    (hb : b = b') : net x E p₁ p₂ p₃ p₄ p₅ p₆ w b = net x' E' p₁' p₂' p₃' p₄' p₅' p₆' w' b' := by
  subst hx hE h₁ h₂ h₃ h₄ h₅ h₆ hw hb
  rfl

/-- The value claim: over the extended reals, from memories that agree on the arguments, the kernel and the reference both
    end with the network of the arguments in their result arrays, and with their arguments unchanged. -/
theorem algebraic [Cert.KernelIdeal.Facts] [Cert.ReferenceIdeal.Facts] : Cert.algebraic_KernelIdeal_ReferenceIdeal := by
  intro m g m' g' _ hagree
  refine ⟨fun c => Kernel.netOf m c, ?_, ?_⟩
  · exact (θ_run Cert.KernelIdeal.defs _ _).mono
      (fun _ h c => ⟨(h.1 c).trans (Kernel.result_eq m g c), h.2 c⟩)
      (θ_run_and (Kernel.run_result (F := Ideal) m g) (Cert.KernelIdeal.Gen.unchanged (F := Ideal) m g))
  · refine (θ_run Cert.ReferenceIdeal.defs _ _).mono
      (fun _ h c => ⟨(h.1 c).trans ?_, (h.2 c).2⟩)
      (θ_run_and (Reference.run_result m' g') (Cert.ReferenceIdeal.Value.run (F := Ideal) m' g'))
    obtain ⟨a0, a1, a2, a3, a4, a5, a6, a7, a8, a9, a10, a11, a12, a13, a14, a15, a16, a17, a18, a19, a20, a21, a22, a23,
      a24, a25, a26, a27⟩ := hagree c
    exact net_congr a0 a1 (Params.congr a2 a3 a4 a5) (Params.congr a6 a7 a8 a9) (Params.congr a10 a11 a12 a13)
      (Params.congr a14 a15 a16 a17) (Params.congr a18 a19 a20 a21) (Params.congr a22 a23 a24 a25) a26 a27

end Cert.Gin
-- ==== Proof.lean ====
/-
  The kernel, its reading over the extended reals and the reference: each runs, faults nowhere, leaves its arguments as
  they were and every counter at zero; and the kernel and the reference end with the same result (Proof/Agree.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference leaves its arguments as they were and every counter at zero: it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  Cert.Gin.algebraic⟩

end Cert.Proof

end
